-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S64x100000 : Shape := ⟨2, ![64, 100000]⟩
abbrev S64 : Shape := ⟨1, ![64]⟩
abbrev S100000x1024 : Shape := ⟨2, ![100000, 1024]⟩
abbrev S64x1 : Shape := ⟨2, ![64, 1]⟩
abbrev S64x1024 : Shape := ⟨2, ![64, 1024]⟩
abbrev S4096x1024 : Shape := ⟨2, ![4096, 1024]⟩
abbrev S64x4096 : Shape := ⟨2, ![64, 4096]⟩
abbrev S1024x64 : Shape := ⟨2, ![1024, 64]⟩

abbrev nBuf : Space → Nat
  | .hbm => 7
  | .vmem => 6
  | .smem => 0
  | _ => 0

abbrev bufTy : (tb : Table) → Fin (tcTables nBuf tb) → BufTy
  | .hbm, ⟨0, _⟩ => ⟨S1024x100000, .f32⟩
  | .hbm, ⟨1, _⟩ => ⟨S64x100000, .f32⟩
  | .hbm, ⟨2, _⟩ => ⟨S64, .f32⟩
  | .hbm, ⟨3, _⟩ => ⟨S100000x1024, .f32⟩
  | .hbm, ⟨4, _⟩ => ⟨S64x1, .f32⟩
  | .hbm, ⟨5, _⟩ => ⟨S64x1024, .f32⟩
  | .hbm, ⟨6, _⟩ => ⟨S1024x64, .f32⟩
  | .local _ .vmem, ⟨0, _⟩ => ⟨S4096x1024, .f32⟩
  | .local _ .vmem, ⟨1, _⟩ => ⟨S4096x1024, .f32⟩
  | .local _ .vmem, ⟨2, _⟩ => ⟨S64x4096, .f32⟩
  | .local _ .vmem, ⟨3, _⟩ => ⟨S64x4096, .f32⟩
  | .local _ .vmem, ⟨4, _⟩ => ⟨S64x1, .f32⟩
  | .local _ .vmem, ⟨5, _⟩ => ⟨S64x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c24_i32 : BitVec 32 := 24#32
  let v3 : BitVec 1 := Scalar.cmpi .slt arg0 c24_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c24_i32_2 : BitVec 32 := 24#32
  let v6 : BitVec 1 := Scalar.cmpi .eq arg0 c24_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x100000 : Shape := ⟨2, ![1024, 100000]⟩
abbrev S64x100000 : Shape := ⟨2, ![64, 100000]⟩
abbrev S64 : Shape := ⟨1, ![64]⟩
abbrev S100000x64 : Shape := ⟨2, ![100000, 64]⟩
abbrev S1024x64 : Shape := ⟨2, ![1024, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S64x100000, .f32⟩
  | .hbm, ⟨2, _⟩ => ⟨S64, .f32⟩
  | .hbm, ⟨3, _⟩ => ⟨S100000x64, .f32⟩
  | .hbm, ⟨4, _⟩ => ⟨S1024x64, .f32⟩
  | .hbm, ⟨5, _⟩ => ⟨S1x64, .f32⟩
  | .hbm, ⟨6, _⟩ => ⟨S1024x64, .f32⟩
  | .hbm, ⟨7, _⟩ => ⟨S1024x64, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Blocks.lean ====
/-
  The matrix kernel's grid, point by point: which `scf.if` of the body each point takes, the blocks that the two streamed
  windows hold there (the last one cut by the arrays' end), and the running sum that the resident output block holds.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic

@[expose] public section

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The cases of the body -/

/-- The bias is stored at the first point only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- The unmasked product is taken at every point but the last. -/
theorem cond2_iff : ∀ t : Fin cfg0.N, k0_cond2 (grid0.coords t) = 1#1 ↔ t.val < 24 :=
  (by decide +kernel : ∀ t : Fin grid0.N, k0_cond2 (grid0.coords t) = 1#1 ↔ t.val < 24)
/-- The masked product is taken at the last point only. -/
theorem cond3_iff : ∀ t : Fin cfg0.N, k0_cond3 (grid0.coords t) = 1#1 ↔ t.val = 24 :=
  (by decide +kernel : ∀ t : Fin grid0.N, k0_cond3 (grid0.coords t) = 1#1 ↔ t.val = 24)
/-- The output block is stored at every point. -/
theorem live_out : ∀ t : Fin cfg0.N, cfg0.idle 3 (grid0.coords t) = false :=
  (by decide +kernel : ∀ t : Fin grid0.N, cfg0.idle 3 (grid0.coords t) = false)

/-! ## The blocks -/

/-- The zero word, with which a cut block is filled out where a total block is wanted. -/
abbrev zw : Elt F .f32 := Scalar.ofBits .f32 0x00000000#32

/-- Block `t` of the transposed input, filled out with zeros past the array's end. -/
def xb (c : Dev nD) (t : Fin cfg0.N) : Vec F S4096x1024 .f32 :=
  win0_0.fill (grid0.coords t) (fun _ => zw) (iblk m c 0 t)
/-- Block `t` of the weight, filled out with zeros past the array's end. -/
def wb (c : Dev nD) (t : Fin cfg0.N) : Vec F S64x4096 .f32 :=
  win0_1.fill (grid0.coords t) (fun _ => zw) (iblk m c 1 t)
/-- The bias block. -/
def bb (c : Dev nD) (t : Fin cfg0.N) : Vec F S64x1 .f32 := iblk m c 2 t

/-- The running sum in the output block after point `n`: the bias and the products of the points up to it. -/
def acc (c : Dev nD) : (n : ℕ) → n < cfg0.N → Vec F S64x1024 .f32
  | 0, h => k0_pay2 (k0_pay1 (bb m c ⟨0, h⟩)) (wb m c ⟨0, h⟩) (xb m c ⟨0, h⟩)
  | n + 1, h =>
    if n + 1 < 24 then k0_pay2 (acc c n (Nat.lt_of_succ_lt h)) (wb m c ⟨n + 1, h⟩) (xb m c ⟨n + 1, h⟩)
    else k0_pay3 (xb m c ⟨n + 1, h⟩) (wb m c ⟨n + 1, h⟩) (acc c n (Nat.lt_of_succ_lt h))

/-! ## The cut of the last block -/

theorem clip0_none : ∀ t : Fin cfg0.N, t.val < 24 → ∀ a, win0_0.clip (grid0.coords t) a = none :=
  (by decide +kernel : ∀ t : Fin grid0.N, t.val < 24 → ∀ a, win0_0.clip (grid0.coords t) a = none)
theorem clip1_none : ∀ t : Fin cfg0.N, t.val < 24 → ∀ a, win0_1.clip (grid0.coords t) a = none :=
  (by decide +kernel : ∀ t : Fin grid0.N, t.val < 24 → ∀ a, win0_1.clip (grid0.coords t) a = none)
theorem xsize0_last : ∀ t : Fin cfg0.N, t.val = 24 → win0_0.xsize (grid0.coords t) 0 = 1696 ∧ win0_0.xsize (grid0.coords t) 1 = 1024 :=
  (by decide +kernel : ∀ t : Fin grid0.N, t.val = 24 → win0_0.xsize (grid0.coords t) 0 = 1696 ∧ win0_0.xsize (grid0.coords t) 1 = 1024)
theorem xsize1_last : ∀ t : Fin cfg0.N, t.val = 24 → win0_1.xsize (grid0.coords t) 0 = 64 ∧ win0_1.xsize (grid0.coords t) 1 = 1696 :=
  (by decide +kernel : ∀ t : Fin grid0.N, t.val = 24 → win0_1.xsize (grid0.coords t) 0 = 64 ∧ win0_1.xsize (grid0.coords t) 1 = 1696)

/-- An uncut input block takes nothing from what the buffer held. -/
theorem xfill_full (c : Dev nD) (t : Fin cfg0.N) (ht : t.val < 24) (d : Vec F S4096x1024 .f32) :
    win0_0.fill (grid0.coords t) d (iblk m c 0 t) = xb m c t :=
  Pipeline.fill_of_clip_none (cfg := cfg0) 0 (grid0.coords t) (clip0_none t ht) d _ _
theorem wfill_full (c : Dev nD) (t : Fin cfg0.N) (ht : t.val < 24) (d : Vec F S64x4096 .f32) :
    win0_1.fill (grid0.coords t) d (iblk m c 1 t) = wb m c t :=
  Pipeline.fill_of_clip_none (cfg := cfg0) 1 (grid0.coords t) (clip1_none t ht) d _ _

/-- Below the array's end the last input block does not depend on what the buffer held. -/
theorem xfill_last (c : Dev nD) (t : Fin cfg0.N) (ht : t.val = 24) (d : Vec F S4096x1024 .f32) (j : S4096x1024.Idx)
    (hj : (j 0 : ℕ) < 1696) : win0_0.fill (grid0.coords t) d (iblk m c 0 t) j = xb m c t j := by
  have hm : win0_0.moved (grid0.coords t) j = true := (win0_0.moved_iff _ j).mpr fun a => by
    match a with
    | ⟨0, _⟩ => exact lt_of_lt_of_eq hj (xsize0_last t ht).1.symm
    | ⟨1, _⟩ => exact lt_of_lt_of_eq (j 1).isLt (xsize0_last t ht).2.symm
  unfold xb Window.fill; rw [dif_pos hm, dif_pos hm]
theorem wfill_last (c : Dev nD) (t : Fin cfg0.N) (ht : t.val = 24) (d : Vec F S64x4096 .f32) (j : S64x4096.Idx)
    (hj : (j 1 : ℕ) < 1696) : win0_1.fill (grid0.coords t) d (iblk m c 1 t) j = wb m c t j := by
  have hm : win0_1.moved (grid0.coords t) j = true := (win0_1.moved_iff _ j).mpr fun a => by
    match a with
    | ⟨0, _⟩ => exact lt_of_lt_of_eq (j 0).isLt (xsize1_last t ht).1.symm
    | ⟨1, _⟩ => exact lt_of_lt_of_eq hj (xsize1_last t ht).2.symm
  unfold wb Window.fill; rw [dif_pos hm, dif_pos hm]

end Cert.KernelIdeal.Tc

end
-- ==== Proof.Body.lean ====
/-
  One run of the matrix kernel's body, in each of its three cases: the first point stores the bias and adds its product, a
  middle point adds its product, the last point adds its product masked to the columns inside the arrays.
-/
module

public import proofs.«01_k».proof.Proof.Blocks

@[expose] public section

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A store over a whole buffer reads back as what it stored, whatever was stored before. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; show y ∈ (Rect.whole S).set; rw [Rect.set_whole]; exact Finset.mem_univ y⟩, View.canon_cons_unit_zero h]

section
variable (c : Dev nD) (i : grid0.Coords) (arg1 : Memref sig .tc .vmem S4096x1024 .f32) (harg1 : arg1.IsWhole)
  (arg2 : Memref sig .tc .vmem S64x4096 .f32) (harg2 : arg2.IsWhole) (arg3 : Memref sig .tc .vmem S64x1 .f32) (harg3 : arg3.IsWhole)
  (arg4 : Memref sig .tc .vmem S64x1024 .f32) (harg4 : arg4.IsWhole)
  (x0 : Vec F S4096x1024 .f32) (x1 : Vec F S64x4096 .f32) (x2 : Vec F S64x1 .f32) (xo : Vec F S64x1024 .f32)

/-- What a run owns of the three inputs' staging buffers. -/
def ins : sProp 𝕄 :=
  iprop(owns (c : Thread nD τ) arg1 fullShare x0 ∗ owns (c : Thread nD τ) arg2 fullShare x1 ∗ owns (c : Thread nD τ) arg3 fullShare x2)

/-- The first point. -/
theorem run_first (hc0 : k0_cond1 i = 1#1) (hc1 : k0_cond2 i = 1#1) (hc2 : ¬k0_cond3 i = 1#1) (E : Set ℕ) (K : PUnit → sProp 𝕄) :
    iprop(ins c arg1 arg2 arg3 x0 x1 x2 ∗ owns (c : Thread nD τ) arg4 fullShare xo
        ∗ (iprop(ins c arg1 arg2 arg3 x0 x1 x2 ∗ owns (c : Thread nD τ) arg4 fullShare (k0_pay2 (k0_pay1 x2) x1 x0)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel ins
  unfold owns
  iintro ⟨⟨⟨%f0, %hf0, H0⟩, ⟨%f1, %hf1, H1⟩, ⟨%f2, %hf2, H2⟩⟩, ⟨%f3, %hf3, H3⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  iexists _; isplitr
  rotate_left
  · iexact H3
  ipureintro
  rw [read_writes_whole _ _ hz]
  sl_unfold_words
  rw [View.readCov_unit_zero (S := S64x1024) _ hz]
  simp only [View.readAt_eq_ld, harg1.read_unread, harg2.read_unread, harg3.read_unread,
    View.ld_unit_zero (S := S64x4096) hz, View.ld_unit_zero (S := S4096x1024) hz, View.ld_unit_zero (S := S64x1) hz]

/-- A middle point. -/
theorem run_mid (hc0 : ¬k0_cond1 i = 1#1) (hc1 : k0_cond2 i = 1#1) (hc2 : ¬k0_cond3 i = 1#1) (E : Set ℕ) (K : PUnit → sProp 𝕄) :
    iprop(ins c arg1 arg2 arg3 x0 x1 x2 ∗ owns (c : Thread nD τ) arg4 fullShare xo
        ∗ (iprop(ins c arg1 arg2 arg3 x0 x1 x2 ∗ owns (c : Thread nD τ) arg4 fullShare (k0_pay2 xo x1 x0)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel ins
  unfold owns
  iintro ⟨⟨⟨%f0, %hf0, H0⟩, ⟨%f1, %hf1, H1⟩, ⟨%f2, %hf2, H2⟩⟩, ⟨%f3, %hf3, H3⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  iexists _; isplitr
  rotate_left
  · iexact H3
  ipureintro
  rw [read_writes_whole _ _ hz]
  simp only [View.readAt_eq_ld, harg1.read_unread, harg2.read_unread, harg3.read_unread, harg4.read_unread,
    View.ld_unit_zero (S := S64x1024) hz, View.ld_unit_zero (S := S64x4096) hz, View.ld_unit_zero (S := S4096x1024) hz, View.ld_unit_zero (S := S64x1) hz]

/-- The last point. -/
theorem run_last (hc0 : ¬k0_cond1 i = 1#1) (hc1 : ¬k0_cond2 i = 1#1) (hc2 : k0_cond3 i = 1#1) (E : Set ℕ) (K : PUnit → sProp 𝕄) :
    iprop(ins c arg1 arg2 arg3 x0 x1 x2 ∗ owns (c : Thread nD τ) arg4 fullShare xo
        ∗ (iprop(ins c arg1 arg2 arg3 x0 x1 x2 ∗ owns (c : Thread nD τ) arg4 fullShare (k0_pay3 x0 x1 xo)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel ins
  unfold owns
  iintro ⟨⟨⟨%f0, %hf0, H0⟩, ⟨%f1, %hf1, H1⟩, ⟨%f2, %hf2, H2⟩⟩, ⟨%f3, %hf3, H3⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  iapply Hk
  isplitl [H0 H1 H2]
  · isplitl [H0]
    · iexists _; isplitr; · ipureintro; exact harg1.read_unread _
      iexact H0
    isplitl [H1]
    · iexists _; isplitr; · ipureintro; exact harg2.read_unread _
      iexact H1
    iexists _; isplitr; · ipureintro; exact harg3.read_unread _
    iexact H2
  iexists _; isplitr
  rotate_left
  · iexact H3
  ipureintro
  rw [read_writes_whole _ _ hz]
  simp only [View.readAt_eq_ld, harg1.read_unread, harg2.read_unread, harg3.read_unread, harg4.read_unread,
    View.ld_unit_zero (S := S64x1024) hz, View.ld_unit_zero (S := S64x4096) hz, View.ld_unit_zero (S := S4096x1024) hz, View.ld_unit_zero (S := S64x1) hz]

end

end Cert.KernelIdeal.Tc

end
-- ==== Proof.Region.lean ====
/-
  The matrix kernel's pipeline over any float values: at every point the body leaves the running sum in the output block, so
  the result array ends at the sum after the last point.
-/
module

public import proofs.«01_k».proof.Proof.Body

@[expose] public section

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.WordCmp

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The mask -/

/-- The masked product reads only the columns inside the arrays. -/
theorem pay3_congr {x x' : Vec F S4096x1024 .f32} {w w' : Vec F S64x4096 .f32} (a : Vec F S64x1024 .f32)
    (hx : ∀ j : S4096x1024.Idx, (j 0 : ℕ) < 1696 → x j = x' j) (hw : ∀ j : S64x4096.Idx, (j 1 : ℕ) < 1696 → w j = w' j) :
    k0_pay3 x w a = k0_pay3 x' w' a := by
  have ex : ∀ j : S4096x1024.Idx, (cmpi .slt (iota .tc S4096x1024 32 [0] iota_S4096x1024_d0_w32) (broadcast S4096x1024 1696#32) : IVec _ 1) j = 1#1
      → (j 0 : ℕ) < 1696 := fun j h => by
    have h0 : (j 0 : ℕ) < 4096 := (j 0).isLt
    simp only [cmpi, iota, List.foldl, Nat.zero_mul, Nat.zero_add] at h
    exact (cmpi_slt_ofNat_eq_one_iff (by omega) (by decide)).mp h
  have ew : ∀ j : S64x4096.Idx, (cmpi .slt (iota .tc S64x4096 32 [1] iota_S64x4096_d1_w32) (broadcast S64x4096 1696#32) : IVec _ 1) j = 1#1
      → (j 1 : ℕ) < 1696 := fun j h => by
    have h0 : (j 1 : ℕ) < 4096 := (j 1).isLt
    simp only [cmpi, iota, List.foldl, Nat.zero_mul, Nat.zero_add] at h
    exact (cmpi_slt_ofNat_eq_one_iff (by omega) (by decide)).mp h
  have sx : select (cmpi .slt (iota .tc S4096x1024 32 [0] iota_S4096x1024_d0_w32) (broadcast S4096x1024 1696#32))
      (shapeCast S4096x1024 x shapeCasts_S4096x1024_S4096x1024) (broadcast S4096x1024 (Scalar.ofBits .f32 0x00000000#32 : F .f32))
    = select (cmpi .slt (iota .tc S4096x1024 32 [0] iota_S4096x1024_d0_w32) (broadcast S4096x1024 1696#32))
      (shapeCast S4096x1024 x' shapeCasts_S4096x1024_S4096x1024) (broadcast S4096x1024 (Scalar.ofBits .f32 0x00000000#32 : F .f32)) := by
    rw [shapeCast_self, shapeCast_self]; funext j
    unfold select Scalar.select
    split
    · rename_i h; exact hx j (ex j h)
    · rfl
  have sw : (select (cmpi .slt (iota .tc S64x4096 32 [1] iota_S64x4096_d1_w32) (broadcast S64x4096 1696#32))
      w (broadcast S64x4096 (Scalar.ofBits .f32 0x00000000#32 : F .f32)) : Vec F S64x4096 .f32)
    = select (cmpi .slt (iota .tc S64x4096 32 [1] iota_S64x4096_d1_w32) (broadcast S64x4096 1696#32))
      w' (broadcast S64x4096 (Scalar.ofBits .f32 0x00000000#32 : F .f32)) := by
    funext j
    unfold select Scalar.select
    split
    · rename_i h; exact hw j (ew j h)
    · rfl
  unfold k0_pay3
  dsimp only
  rw [sx, sw]

/-! ## The proof data -/

/-- The pipeline's proof data on device `c`: the inputs' buffers keep their blocks, the output's holds the running sum. -/
def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => wb m c t
    | ⟨2, _⟩ => bb m c t
    | ⟨3, _⟩ => acc m c t.val t.isLt
  Φ _ := Pipeline.ΦA spec0 c
  q _ := fullShare
  owed _ := 0

theorem before_x (c : Dev nD) (t : Fin cfg0.N) (d) : (dats m 0 c).before 0 t d = win0_0.fill (grid0.coords t) d (iblk m c 0 t) := by
  unfold Dat.before; rw [if_pos (fetch0_0 t)]; rfl
theorem before_w (c : Dev nD) (t : Fin cfg0.N) (d) : (dats m 0 c).before 1 t d = win0_1.fill (grid0.coords t) d (iblk m c 1 t) := by
  unfold Dat.before; rw [if_pos (fetch0_1 t)]; rfl
theorem before_b (c : Dev nD) (t : Fin cfg0.N) (d) : (dats m 0 c).before 2 t d = bb m c t :=
  before0_2_of m (dats m 0 c) rfl (fun t => rfl) t d
theorem before_o (c : Dev nD) (n : ℕ) (h : n + 1 < cfg0.N) (d) :
    (dats m 0 c).before 3 ⟨n + 1, h⟩ d = acc m c n (Nat.lt_of_succ_lt h) := by
  have hN : cfg0.N = 25 := N_0
  have hfl : (cfg0.win 3).flush ⟨n, Nat.lt_of_succ_lt h⟩ = false :=
    Bool.eq_false_iff.mpr fun hf => by have := (flush0_3 ⟨n, Nat.lt_of_succ_lt h⟩).mp hf; dsimp only at this; omega
  rw [(dats m 0 c).before_of_pos 3 ⟨n + 1, h⟩ (Nat.succ_ne_zero n) ((cfg0.win 3).fetch_out rfl _)]
  rw [show (⟨(⟨n + 1, h⟩ : Fin cfg0.N).val - 1, Nat.lt_of_le_of_lt (Nat.sub_le _ _) h⟩ : Fin cfg0.N) = ⟨n, Nat.lt_of_succ_lt h⟩ from rfl,
    hfl, if_neg Bool.false_ne_true]
  unfold Dat.left
  rw [show cfg0.idle 3 (grid0.coords ⟨n, Nat.lt_of_succ_lt h⟩) = false from live_out _]
  unfold Dat.kept
  rw [Pipeline.fill_of_clip_none (cfg := cfg0) 3 _ (fun a => rfl) d ((dats m 0 c).after 3 ⟨n, Nat.lt_of_succ_lt h⟩), Window.fill_cut]
  rfl

/-! ## The body's obligation -/

/-- The body at point `t`, on the point's own staging buffers: the inputs' hold their blocks filled out with anything, the
    output's the sum before the point (anything at the first); it ends at the sum after the point. -/
theorem body_at (c : Dev nD) (t : Fin cfg0.N) (dx : Vec F S4096x1024 .f32) (dw : Vec F S64x4096 .f32) (d3 : Vec F S64x1024 .f32)
    (E : Set ℕ) (K : PUnit → sProp 𝕄) :
    iprop(ins c (win0_0.stage (cfg0.slots t 0)) (win0_1.stage (cfg0.slots t 1)) (win0_2.stage (cfg0.slots t 2))
          (win0_0.fill (grid0.coords t) dx (iblk m c 0 t)) (win0_1.fill (grid0.coords t) dw (iblk m c 1 t)) (bb m c t)
        ∗ owns (c : Thread nD τ) (win0_3.stage (cfg0.slots t 3)) fullShare ((dats m 0 c).before 3 t d3)
        ∗ (iprop(ins c (win0_0.stage (cfg0.slots t 0)) (win0_1.stage (cfg0.slots t 1)) (win0_2.stage (cfg0.slots t 2))
              (win0_0.fill (grid0.coords t) dx (iblk m c 0 t)) (win0_1.fill (grid0.coords t) dw (iblk m c 1 t)) (bb m c t)
            ∗ owns (c : Thread nD τ) (win0_3.stage (cfg0.slots t 3)) fullShare (acc m c t.val t.isLt)) -∗ K ⟨⟩))
      ⊢ wp frame (wpE (defs₀ (F := F)) Variants.none c none) E (bodyAt0 t) K := by
  have hN : cfg0.N = 25 := N_0
  obtain ⟨n, hn⟩ := t
  match n, hn with
  | 0, hn =>
    rw [xfill_full m c _ (Nat.succ_pos 23), wfill_full m c _ (Nat.succ_pos 23)]
    exact run_first c _ _ _ _ _ _ _ _ _ _ _ _ _ ((cond1_iff _).mpr rfl) ((cond2_iff _).mpr (Nat.succ_pos 23))
      (fun h => absurd ((cond3_iff _).mp h) (Nat.succ_ne_zero 23).symm) E K
  | n + 1, hn =>
    rw [before_o m c n hn]
    by_cases h : n + 1 < 24
    · rw [xfill_full m c ⟨n + 1, hn⟩ h, wfill_full m c ⟨n + 1, hn⟩ h,
        show acc m c (⟨n + 1, hn⟩ : Fin cfg0.N).val hn = k0_pay2 (acc m c n (Nat.lt_of_succ_lt hn)) (wb m c ⟨n + 1, hn⟩) (xb m c ⟨n + 1, hn⟩)
          from by show acc m c (n + 1) hn = _; rw [acc, if_pos h]]
      exact run_mid c _ _ _ _ _ _ _ _ _ _ _ _ _ (fun h => absurd ((cond1_iff _).mp h) (Nat.succ_ne_zero n)) ((cond2_iff _).mpr h)
        (fun h' => absurd ((cond3_iff _).mp h') (Nat.ne_of_lt h)) E K
    · have e : n + 1 = 24 := by omega
      rw [show acc m c (⟨n + 1, hn⟩ : Fin cfg0.N).val hn
            = k0_pay3 (win0_0.fill (grid0.coords ⟨n + 1, hn⟩) dx (iblk m c 0 ⟨n + 1, hn⟩))
                (win0_1.fill (grid0.coords ⟨n + 1, hn⟩) dw (iblk m c 1 ⟨n + 1, hn⟩)) (acc m c n (Nat.lt_of_succ_lt hn))
          from by
            show acc m c (n + 1) hn = _
            rw [acc, if_neg h]
            exact (pay3_congr _ (fun j hj => xfill_last m c ⟨n + 1, hn⟩ e dx j hj) (fun j hj => wfill_last m c ⟨n + 1, hn⟩ e dw j hj)).symm]
      exact run_last c _ _ _ _ _ _ _ _ _ _ _ _ _ (fun h => absurd ((cond1_iff _).mp h) (Nat.succ_ne_zero n))
        (fun h' => h ((cond2_iff _).mp h')) ((cond3_iff _).mpr e) E K

/-- The library's obligation: each streamed buffer is handed back stated on the part inside its array. -/
theorem body_obligation (c : Dev nD) : BodyObligationLoose (dats m 0 c) (defs₀ (F := F)) Variants.none () Set.univ := fun t => by
  rw [bigSep_W0, bigSep_W0]
  rw [show defs₀ (F := F) .tc cfg0.body (cfg0.bodyArgs t (cfg0.slots t)) = bodyAt0 t from by unfold defs₀; rw [Defs.onTc_tc]]
  simp only
  rw [show idle0 3 (grid0.coords t) = false from live_out t,
    show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_x m c t d0, before_w m c t d1, before_b m c t d2]
  iapply (body_at m c t d0 d1 d3 Set.univ _)
  unfold ins
  isplitl [H0 H1 H2]
  · isplitl [H0]; · iexact H0
    isplitl [H1]; · iexact H1
    iexact H2
  isplitl [H3]; · iexact H3
  iintro ⟨⟨H0, H1, H2⟩, H3⟩
  isplitl [HΦ]; · iexact HΦ
  isplitl [Ho]; · iexact Ho
  have hx : win0_0.cut (grid0.coords t) (xb m c t) = iblk m c 0 t := win0_0.cut_fill _ _ _
  have hw : win0_1.cut (grid0.coords t) (wb m c t) = iblk m c 1 t := win0_1.cut_fill _ _ _
  isplitl [H0]
  · iexists d0
    change _ ⊢ owns (c : Thread nD τ) (win0_0.stage (cfg0.slots t 0)) fullShare (win0_0.fill (grid0.coords t) d0 (win0_0.cut (grid0.coords t) (xb m c t)))
    rw [hx]; try iexact H0
  isplitl [H1]
  · iexists d1
    change _ ⊢ owns (c : Thread nD τ) (win0_1.stage (cfg0.slots t 1)) fullShare (win0_1.fill (grid0.coords t) d1 (win0_1.cut (grid0.coords t) (wb m c t)))
    rw [hw]; try iexact H1
  isplitl [H2]; · iexact H2
  iexact H3

/-! ## The run -/

theorem A_eq : ∀ c w, (dats m 0 c).A w = V m c (Pipeline.arrRef spec0 w) := fun _ _ => rfl

set_option backward.isDefEq.respectTransparency.types false in
set_option maxHeartbeats 800000 in
/-- From any memory with zero counters every weakly fair execution terminates, with the arrays at the contents the pipeline
    leaves and the host operations after it applied, and every counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The last point. -/
abbrev tl : Fin cfg0.N := ⟨24, by decide +kernel⟩

/-- The result array's one write-back, after the last point, writes the whole running sum. -/
theorem final_out (c : Dev nD) : (dats m 0 c).arrAt 3 cfg0.N = acc m c 24 tl.isLt := by
  have hN : cfg0.N = 25 := N_0
  refine (dats m 0 c).arrAt_eq_of_cover 3 _ (fun t hf => ?_) fun i => ⟨tl, (flush0_3 _).mpr rfl, ?_⟩
  · have h3 : t.val = 24 := by have := (flush0_3 t).mp hf; have := t.isLt; omega
    obtain rfl : t = tl := Fin.ext h3
    have hz' : (fun a => win0_3.index tl a * main_v2.ty.shape.size a) = fun _ => 0 := funext fun a => by fin_cases a <;> decide +kernel
    exact (Memref.read_access_unit_zero (Elt F) main_v2 hz' (fun a => by rw [congrFun hz' a]; simp) (acc m c 24 tl.isLt)).symm
  · show i ∈ ((View.whole main_v2).slice (win0_3.rect tl)).set
    rw [View.set_slice_whole, Rect.mem_set_unit]
    intro a
    have h0 : (i 0 : Nat) < 64 := (i 0).isLt
    have h1 : (i 1 : Nat) < 1024 := (i 1).isLt
    match a with
    | ⟨0, _⟩ => show win0_3.index tl 0 * win0_3.size 0 ≤ (i 0 : Nat) ∧ (i 0 : Nat) < win0_3.index tl 0 * win0_3.size 0 + win0_3.xsize (grid0.coords tl) 0
                rw [show win0_3.index tl 0 * win0_3.size 0 = 0 from by decide +kernel, show win0_3.xsize (grid0.coords tl) 0 = 64 from by decide +kernel]; omega
    | ⟨1, _⟩ => show win0_3.index tl 1 * win0_3.size 1 ≤ (i 1 : Nat) ∧ (i 1 : Nat) < win0_3.index tl 1 * win0_3.size 1 + win0_3.xsize (grid0.coords tl) 1
                rw [show win0_3.index tl 1 * win0_3.size 1 = 0 from by decide +kernel, show win0_3.xsize (grid0.coords tl) 1 = 1024 from by decide +kernel]; omega

end Cert.KernelIdeal.Tc

end
-- ==== Proof.Sums.lean ====
/-
  The mathematics both sides are read at: entry (b, o) of the result is the sum over the 100000 features of the products of
  row b of the input and row o of the weight, plus entry o of the bias. Features are natural numbers here, a product past the
  arrays' end being zero, so that a sum over blocks is a sum over a range.
-/
module

public import proofs.«01_k».proof.Proof.Gen.KernelIdeal
public import proofs.«01_k».proof.Proof.Gen.ReferenceIdeal.Run
public import Idealize.ShloMosaic.PureOps.Ideal.Laws
public import Idealize.ShloMosaic.Lib.MatmulPlain
public import Idealize.ShloMosaic.Lib.StackMember
public import Idealize.ShloMosaic.Lib.Pipeline.Value

@[expose] public section

set_option maxRecDepth 16384

noncomputable section

namespace Cert.Sums

open Cert.KernelIdeal
open Idealize.ShloMosaic Idealize.ShloMosaic.ValueIdx Idealize.ShloMosaic.StackMember
open scoped BigOperators

variable (x : S1024x100000.Idx → EReal) (w : S64x100000.Idx → EReal) (β : S64.Idx → EReal)

/-- The product of feature `k` for entry (b, o): zero past the arrays' end. -/
def term (b : Fin 1024) (o : Fin 64) (k : ℕ) : EReal :=
  if h : k < 100000 then x (ix2 b ⟨k, h⟩) * w (ix2 o ⟨k, h⟩) else 0

theorem term_lt (b : Fin 1024) (o : Fin 64) {k : ℕ} (h : k < 100000) : term x w b o k = x (ix2 b ⟨k, h⟩) * w (ix2 o ⟨k, h⟩) := dif_pos h
theorem term_ge (b : Fin 1024) (o : Fin 64) {k : ℕ} (h : 100000 ≤ k) : term x w b o k = 0 := dif_neg (Nat.not_lt.mpr h)

/-- The result. -/
def result : S1024x64.Idx → EReal := fun j => (∑ k ∈ Finset.range 100000, term x w (j 0) (j 1) k) + β (ix1 (j 1))

/-- A sum over a longer range than the features is the sum over the features. -/
theorem sum_range_ge (b : Fin 1024) (o : Fin 64) {n : ℕ} (h : 100000 ≤ n) :
    ∑ k ∈ Finset.range n, term x w b o k = ∑ k ∈ Finset.range 100000, term x w b o k :=
  (Finset.sum_subset (Finset.range_subset_range.mpr h) fun k _ hk => term_ge x w b o (Nat.not_lt.mp fun h => hk (Finset.mem_range.mpr h))).symm

/-- The reference's composed operations at an index. -/
theorem reference_eq :
    (addf (F := Ideal) (φ := .f32) (Host.dotGeneral (φ₁ := .f32) (φ₂ := .f32) Cert.ReferenceIdeal.dot_S1024x100000_S100000x64_S1024x64_1_0_0_1_n_n none x
        (transpose Cert.ReferenceIdeal.S100000x64 [1, 0] w Cert.ReferenceIdeal.Gen.facts.transposes_S64x100000_S100000x64_1_0))
      (broadcastInDim Cert.ReferenceIdeal.S1024x64 ![0, 1] Cert.ReferenceIdeal.Gen.facts.bcast_S1x64_S1024x64_0_1
        (broadcastInDim Cert.ReferenceIdeal.S1x64 ![1] Cert.ReferenceIdeal.Gen.facts.bcast_S64_S1x64_1 β)))
      = result x w β := by
  funext j
  obtain ⟨b, o, rfl⟩ : ∃ (b : Fin 1024) (o : Fin 64), j = ix2 b o := ⟨j 0, j 1, eq_ix2 j⟩
  refine congrArg₂ (fun a b : EReal => a + b) ?_ ?_
  · refine (dotGeneral_plain_apply (m := 1024) (k := 100000) (n := 64) (φ₁ := .f32) (φ₂ := .f32) none x _ b o).trans ?_
    rw [Finset.sum_range]
    refine Finset.sum_congr rfl fun k _ => ?_
    rw [term_lt x w _ _ k.isLt]
    refine congrArg (fun a : EReal => x (ix2 b k) * a) ?_
    exact transpose_apply _ _ _ _ (ix2 o k) (fun a => by
      match a with
      | ⟨0, _⟩ => rfl
      | ⟨1, _⟩ => rfl)
  · refine (broadcastInDim_apply _ _ _ _ (ix2 (0 : Fin 1) o) (fun a => by
      match a with
      | ⟨0, _⟩ => rfl
      | ⟨1, _⟩ => rfl)).trans ?_
    exact broadcastInDim_apply _ _ _ _ (ix1 o) (fun a => by
      match a with
      | ⟨0, _⟩ => rfl)

end Cert.Sums

end
-- ==== Proof.Value.lean ====
/-
  The running sum over the extended reals: after point `n` the output block holds, at (o, b), the bias of `o` and the products
  of the first 4096 · (n + 1) features; a masked product past the arrays' end is zero, as its term is.
-/
module

public import proofs.«01_k».proof.Proof.Region
public import proofs.«01_k».proof.Proof.Sums

@[expose] public section

set_option maxRecDepth 16384

noncomputable section

namespace Cert.KernelIdeal.Tc

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.WordCmp
open scoped BigOperators

/-! ## The blocks at an index -/

section
variable {F : FTy → Type} [FloatOps F]
variable (m : (ℓ : Loc nD τ sig) → Buf (Elt F) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem xsize0 : ∀ t : Fin cfg0.N, win0_0.xsize (grid0.coords t) 0 = min 4096 (100000 - 4096 * t.val) ∧ win0_0.xsize (grid0.coords t) 1 = 1024 :=
  (by decide +kernel : ∀ t : Fin grid0.N, win0_0.xsize (grid0.coords t) 0 = min 4096 (100000 - 4096 * t.val) ∧ win0_0.xsize (grid0.coords t) 1 = 1024)
theorem xsize1 : ∀ t : Fin cfg0.N, win0_1.xsize (grid0.coords t) 0 = 64 ∧ win0_1.xsize (grid0.coords t) 1 = min 4096 (100000 - 4096 * t.val) :=
  (by decide +kernel : ∀ t : Fin grid0.N, win0_1.xsize (grid0.coords t) 0 = 64 ∧ win0_1.xsize (grid0.coords t) 1 = min 4096 (100000 - 4096 * t.val))

theorem index2 : ∀ (t : Fin cfg0.N) (a : Fin 2), win0_2.index t a = 0 :=
  (by decide +kernel : ∀ (t : Fin grid0.N) (a : Fin 2), win0_2.index t a = 0)

/-- Row `k` of the transposed input's block `t` is feature `4096 t + k`. -/
theorem xb_apply (t : Fin cfg0.N) (k : Fin 4096) (b : Fin 1024) (h : 4096 * t.val + k.val < 100000) :
    xb m c t (ix2 k b) = V m c main_v0 (ix2 (⟨4096 * t.val + k.val, h⟩ : Fin 100000) b) := by
  have hm : win0_0.moved (grid0.coords t) (ix2 k b) = true := (win0_0.moved_iff _ _).mpr fun a => by
    have hk := k.isLt
    match a with
    | ⟨0, _⟩ => refine lt_of_lt_of_eq ?_ (xsize0 t).1.symm; show k.val < _; omega
    | ⟨1, _⟩ => exact lt_of_lt_of_eq b.isLt (xsize0 t).2.symm
  unfold xb Window.fill
  rw [dif_pos hm]
  unfold iblk
  rw [View.read_apply]
  show V m c main_v0 _ = _
  congr 1
  funext a
  apply Fin.ext
  match a with
  | ⟨0, _⟩ => show win0_0.index t 0 * 4096 + 1 * k.val = 4096 * t.val + k.val; rw [(index0 t).1]; omega
  | ⟨1, _⟩ => show win0_0.index t 1 * 1024 + 1 * b.val = b.val; rw [(index0 t).2]; omega

/-- Column `k` of the weight's block `t` is feature `4096 t + k`. -/
theorem wb_apply (t : Fin cfg0.N) (o : Fin 64) (k : Fin 4096) (h : 4096 * t.val + k.val < 100000) :
    wb m c t (ix2 o k) = V m c main_arg1 (ix2 o (⟨4096 * t.val + k.val, h⟩ : Fin 100000)) := by
  have hm : win0_1.moved (grid0.coords t) (ix2 o k) = true := (win0_1.moved_iff _ _).mpr fun a => by
    have hk := k.isLt
    match a with
    | ⟨0, _⟩ => exact lt_of_lt_of_eq o.isLt (xsize1 t).1.symm
    | ⟨1, _⟩ => refine lt_of_lt_of_eq ?_ (xsize1 t).2.symm; show k.val < _; omega
  unfold wb Window.fill
  rw [dif_pos hm]
  unfold iblk
  rw [View.read_apply]
  show V m c main_arg1 _ = _
  congr 1
  funext a
  apply Fin.ext
  match a with
  | ⟨0, _⟩ => show win0_1.index t 0 * 64 + 1 * o.val = o.val; rw [(index1 t).1]; omega
  | ⟨1, _⟩ => show win0_1.index t 1 * 4096 + 1 * k.val = 4096 * t.val + k.val; rw [(index1 t).2]; omega

/-- The bias block is the whole bias column. -/
theorem bb_apply (t : Fin cfg0.N) (o : Fin 64) (z : Fin 1) : bb m c t (ix2 o z) = V m c main_v1 (ix2 o z) := by
  unfold bb iblk
  rw [View.read_apply]
  show V m c main_v1 _ = _
  congr 1
  have hi := index2 t
  funext a
  apply Fin.ext
  match a with
  | ⟨0, _⟩ => show win0_2.index t 0 * 64 + 1 * o.val = o.val; rw [hi]; omega
  | ⟨1, _⟩ => show win0_2.index t 1 * 1 + 1 * z.val = z.val; rw [hi]; omega

/-! ## What the host operations before the region leave -/

theorem V_x (k : Fin 100000) (b : Fin 1024) : V m c main_v0 (ix2 k b) = m ((c : Thread nD τ).loc main_arg0) (ix2 b k) := by
  have e : V m c main_v0 = transpose S100000x1024 [1, 0] (m ((c : Thread nD τ).loc main_arg0)) Gen.facts.transposes_S1024x100000_S100000x1024_1_0 := by
    unfold V V0
    simp only [hostOps0, List.flatten_cons, List.flatten_nil, List.append_nil]
    after_results
  rw [e]
  exact transpose_apply _ _ _ _ (ix2 b k) (fun a => by
    match a with
    | ⟨0, _⟩ => rfl
    | ⟨1, _⟩ => rfl)

theorem V_b (o : Fin 64) (z : Fin 1) : V m c main_v1 (ix2 o z) = m ((c : Thread nD τ).loc main_arg2) (ix1 o) := by
  have e : V m c main_v1 = shapeCast S64x1 (m ((c : Thread nD τ).loc main_arg2)) Gen.facts.shapeCasts_S64_S64x1 := by
    unfold V V0
    simp only [hostOps0, List.flatten_cons, List.flatten_nil, List.append_nil]
    after_results
    rfl
  rw [e]
  refine shapeCast_apply _ _ _ (ix1 o) ?_
  refine (Shape.rowMajor_val_one (ix1 o)).trans (Eq.trans ?_ (Shape.rowMajor_val_two (ix2 o z)).symm)
  show o.val = o.val * 1 + z.val
  omega

end

/-! ## The sums -/

section
variable (m : (ℓ : Loc nD τ sig) → Buf (Elt Ideal) ℓ) (c : Dev nD)

/-- The term of the result's sum at the launch contents. -/
abbrev tm (b : Fin 1024) (o : Fin 64) (k : ℕ) : EReal :=
  Sums.term (m ((c : Thread nD τ).loc main_arg0)) (m ((c : Thread nD τ).loc main_arg1)) b o k

/-- Entry `o` of the bias. -/
abbrev bias (o : Fin 64) : EReal := m ((c : Thread nD τ).loc main_arg2) (ix1 o)

theorem pay1_apply (t : Fin cfg0.N) (o : Fin 64) (b : Fin 1024) :
    k0_pay1 (bb m c t) (ix2 o b) = bias m c o := by
  unfold k0_pay1
  rw [shapeCast_self, shapeCast_self]
  refine (broadcastTo_apply _ _ _ (ix2 o (0 : Fin 1)) (fun a => by
    match a with
    | ⟨0, _⟩ => rfl
    | ⟨1, _⟩ => rfl)).trans ?_
  rw [bb_apply, V_b]

/-- An unmasked point adds its 4096 features. -/
theorem pay2_apply (t : Fin cfg0.N) (ht : t.val < 24) (a : Vec Ideal S64x1024 .f32) (o : Fin 64) (b : Fin 1024) :
    k0_pay2 a (wb m c t) (xb m c t) (ix2 o b) = (a (ix2 o b) + ∑ k ∈ Finset.range 4096, tm m c b o (4096 * t.val + k) : EReal) := by
  unfold k0_pay2
  rw [shapeCast_self, shapeCast_self]
  refine congrArg (fun z : EReal => a (ix2 o b) + z) ?_
  refine (Ideal.matmul_plain_apply (M := 64) (K := 4096) (N := 1024) none (wb m c t) (xb m c t) _ o b).trans ?_
  rw [show (constant S64x1024 .f32 0x00000000#32 : FVec Ideal S64x1024 .f32) (ix2 o b) = (0 : EReal) from Ideal.ofBits_zero_f32, zero_add,
    Finset.sum_range]
  refine Finset.sum_congr rfl fun k _ => ?_
  have hk : 4096 * t.val + k.val < 100000 := by have := k.isLt; omega
  rw [xb_apply m c t k b hk, wb_apply m c t o k hk, V_x, V_main_arg1, tm, Sums.term_lt _ _ _ _ hk]
  exact mul_comm (G := EReal) _ _

/-- The masked point adds its 1696 features and zeros. -/
theorem pay3_apply (t : Fin cfg0.N) (ht : t.val = 24) (a : Vec Ideal S64x1024 .f32) (o : Fin 64) (b : Fin 1024) :
    k0_pay3 (xb m c t) (wb m c t) a (ix2 o b) = (a (ix2 o b) + ∑ k ∈ Finset.range 4096, tm m c b o (4096 * t.val + k) : EReal) := by
  unfold k0_pay3
  dsimp only
  rw [shapeCast_self, shapeCast_self]
  refine congrArg (fun z : EReal => a (ix2 o b) + z) ?_
  refine (Ideal.matmul_plain_apply (M := 64) (K := 4096) (N := 1024) none _ _ _ o b).trans ?_
  rw [show (constant S64x1024 .f32 0x00000000#32 : FVec Ideal S64x1024 .f32) (ix2 o b) = (0 : EReal) from Ideal.ofBits_zero_f32, zero_add,
    Finset.sum_range]
  refine Finset.sum_congr rfl fun k _ => ?_
  have h4 := k.isLt
  simp only [select, cmpi, iota, List.foldl, Nat.zero_mul, Nat.zero_add]
  by_cases h : k.val < 1696
  · have hk : 4096 * t.val + k.val < 100000 := by omega
    have e : IntOp.cmpi .slt (BitVec.ofNat 32 k.val) 1696#32 = 1#1 := (cmpi_slt_ofNat_eq_one_iff (by omega) (by decide)).mpr h
    rw [show IntOp.cmpi .slt (BitVec.ofNat 32 ((ix2 o k : S64x4096.Idx) 1).val) (broadcast S64x4096 1696#32 (ix2 o k)) = 1#1 from e,
      show IntOp.cmpi .slt (BitVec.ofNat 32 ((ix2 k b : S4096x1024.Idx) 0).val) (broadcast S4096x1024 1696#32 (ix2 k b)) = 1#1 from e]
    show (wb m c t (ix2 o k) : EReal) * xb m c t (ix2 k b) = _
    rw [xb_apply m c t k b hk, wb_apply m c t o k hk, V_x, V_main_arg1, tm, Sums.term_lt _ _ _ _ hk]
    exact mul_comm (G := EReal) _ _
  · have e : IntOp.cmpi .slt (BitVec.ofNat 32 k.val) 1696#32 = 0#1 := (cmpi_slt_ofNat_eq_zero_iff (by omega) (by decide)).mpr h
    rw [show IntOp.cmpi .slt (BitVec.ofNat 32 ((ix2 o k : S64x4096.Idx) 1).val) (broadcast S64x4096 1696#32 (ix2 o k)) = 0#1 from e,
      show IntOp.cmpi .slt (BitVec.ofNat 32 ((ix2 k b : S4096x1024.Idx) 0).val) (broadcast S4096x1024 1696#32 (ix2 k b)) = 0#1 from e,
      tm, Sums.term_ge _ _ _ _ (by omega)]
    show (Ideal.ofBits .f32 0x00000000#32 : EReal) * Ideal.ofBits .f32 0x00000000#32 = 0
    rw [Ideal.ofBits_zero_f32, zero_mul]

/-- The running sum. -/
theorem acc_apply (o : Fin 64) (b : Fin 1024) : ∀ (n : ℕ) (h : n < cfg0.N),
    acc m c n h (ix2 o b)
      = (bias m c o + ∑ k ∈ Finset.range (4096 * (n + 1)), tm m c b o k : EReal)
  | 0, h => by
    rw [acc, pay2_apply m c _ (Nat.succ_pos 23), pay1_apply]
    simp only [Nat.mul_zero, Nat.zero_add, Nat.mul_one]
  | n + 1, h => by
    have hN : cfg0.N = 25 := N_0
    have step : acc m c (n + 1) h (ix2 o b)
        = (acc m c n (Nat.lt_of_succ_lt h) (ix2 o b) + ∑ k ∈ Finset.range 4096, tm m c b o (4096 * (n + 1) + k) : EReal) := by
      rw [acc]
      split
      · rename_i h'; exact pay2_apply m c ⟨n + 1, h⟩ h' _ o b
      · rename_i h'; exact pay3_apply m c ⟨n + 1, h⟩ (by show n + 1 = 24; omega) _ o b
    rw [step, acc_apply o b n, Nat.mul_succ 4096 (n + 1), Finset.sum_range_add, add_assoc]

/-- The result array after the last host operation. -/
theorem tail_apply (mm : (p : Fin 1) → (c : Dev nD) → Dat τ (Elt Ideal) Unit ℕ (UR sig nD τ) ℕ (cfgs p) c)
    (hmm : (mm 0 c).arrAt 3 cfg0.N = acc m c 24 tl.isLt) :
    Pipeline.afterTail₀ cfgs mm 0 (V0 m) [hostOps1] c main_v3
      = Sums.result (m ((c : Thread nD τ).loc main_arg0)) (m ((c : Thread nD τ).loc main_arg1)) (m ((c : Thread nD τ).loc main_arg2)) := by
  have e : Pipeline.afterTail₀ cfgs mm 0 (V0 m) [hostOps1] c main_v3
      = transpose S1024x64 [1, 0] (acc m c 24 tl.isLt) Gen.facts.transposes_S64x1024_S1024x64_1_0 := by
    unfold Pipeline.afterTail₀
    simp only [hostOps1, List.flatten_cons, List.flatten_nil, List.append_nil]
    after_results
    exact congrArg (fun z => transpose S1024x64 [1, 0] z Gen.facts.transposes_S64x1024_S1024x64_1_0)
      ((Pipeline.withArrays_arr spec0 (by decide) c _ _ 3).trans hmm)
  rw [e]
  funext j
  obtain ⟨b, o, rfl⟩ : ∃ (b : Fin 1024) (o : Fin 64), j = ix2 b o := ⟨j 0, j 1, eq_ix2 j⟩
  refine (transpose_apply _ _ _ _ (ix2 o b) (fun a => by
    match a with
    | ⟨0, _⟩ => rfl
    | ⟨1, _⟩ => rfl)).trans ?_
  rw [acc_apply, Sums.sum_range_ge _ _ _ _ (by decide), add_comm]
  rfl

end

end Cert.KernelIdeal.Tc

end
-- ==== Proof.lean ====
/-
  The certificate of the blocked matrix product: the kernel, its reading over the extended reals and the reference each run to
  the end with their arguments unchanged and every semaphore at zero, and the kernel's one result equals the reference's, entry
  by entry: the product of the input with the transposed weight, plus the bias.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.KernelIdeal.Gen Cert.KernelIdeal.Tc

/-- The run at any float values: the arguments unchanged, every counter at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread _ _).loc Cert.KernelIdeal.main_arg0)
        ∧ r.2.mem ((c.tc : Thread Cert.KernelIdeal.nD Cert.KernelIdeal.τ).loc Cert.KernelIdeal.main_arg1) = m ((c.tc : Thread _ _).loc Cert.KernelIdeal.main_arg1)
        ∧ r.2.mem ((c.tc : Thread Cert.KernelIdeal.nD Cert.KernelIdeal.τ).loc Cert.KernelIdeal.main_arg2) = m ((c.tc : Thread _ _).loc Cert.KernelIdeal.main_arg2))
      ∧ r.2.sem = fun _ => 0) :=
  θ_run_and (Cert.KernelIdeal.Gen.frame_of m ρ (dats m) (A_eq m) ((θ_run Cert.KernelIdeal.defs _ _).mono (fun _ h => h.1) (run_main m ρ)))
    ((θ_run Cert.KernelIdeal.defs _ _).mono (fun _ h => h.2) (run_main m ρ))

theorem frame_idealized : Cert.quiescent_KernelIdeal := fun m ρ _ => run_frame m ρ

/-- The two printings have one body table, -/
theorem defs₀_eq {F : FTy → Type} [FloatOps F] : Cert.Kernel.defs₀ (F := F) = Cert.KernelIdeal.defs₀ (F := F) := by
  unfold Cert.Kernel.defs₀ Cert.KernelIdeal.defs₀
  refine congrArg (Defs.onTc (Λ := Cert.Kernel.Λ₀)) (funext fun ℓ => funext fun a => ?_)
  match ℓ, a with
  | 0, (t, s) => rfl
/-- and so one table of pipelines. -/
theorem defs_eq {F : FTy → Type} [FloatOps F] : Cert.Kernel.defs (F := F) = Cert.KernelIdeal.defs (F := F) :=
  congrArg (Pipeline.defs (Cert.Kernel.pcfgs (F := F))) defs₀_eq

/-- The kernel and its idealization are one text, so one run at any float values frames both. -/
theorem frame_kernel : Cert.quiescent_Kernel := fun m ρ _ => by
  rw [defs_eq]
  exact run_frame (F := Bits) m ρ

/-- The reference is a straight line of host operations and has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Both results are the sum over the features plus the bias. -/
theorem value : Cert.algebraic_KernelIdeal_ReferenceIdeal := by
  intro m ρ m' ρ' _ hagree
  refine ⟨fun c => Sums.result (m ((c.tc : Thread _ _).loc Cert.KernelIdeal.main_arg0)) (m ((c.tc : Thread _ _).loc Cert.KernelIdeal.main_arg1))
    (m ((c.tc : Thread _ _).loc Cert.KernelIdeal.main_arg2)), ?_, ?_⟩
  · refine (θ_run Cert.KernelIdeal.defs _ _).mono (fun r h c => ⟨?_, h.2.1 c⟩) (θ_run_and (run_main m ρ) (run_frame m ρ))
    exact ((h.1.1 c).2 Cert.KernelIdeal.main_v3 (Pipeline.mem_restRefs_of Cert.KernelIdeal.main_v3 (by decide) (by decide))).trans
      (tail_apply m c (dats m) (final_out m c))
  · refine (θ_run Cert.ReferenceIdeal.defs _ _).mono (fun r h c => ⟨?_, (h c).2⟩) (Cert.ReferenceIdeal.Value.run (F := Ideal) m' ρ')
    refine (h c).1.trans ?_
    rw [(hagree c).1, (hagree c).2.1, (hagree c).2.2]
    exact Sums.reference_eq _ _ _

/-- Everything claimed. -/
theorem claim : Cert.Claim :=
  ⟨Cert.Kernel.Gen.facts, Cert.KernelIdeal.Gen.facts, Cert.ReferenceIdeal.Gen.facts,
    frame_kernel, frame_idealized, frame_reference, trivial, value⟩

end Cert.Proof

end
